-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_12 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_11 : BitVec 32 := 8#32
  let v22 : BitVec 32 := Scalar.muli v9 c8_i32_11
  let v23 : BitVec 32 := Scalar.addi c0_i32_12 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v24 : BitVec 32 := Scalar.muli v5 c4_i32_13
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v26 : BitVec 32 := Scalar.muli v8 c1_i32_14
  let v27 : BitVec 32 := Scalar.addi v25 v26
  v27.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealProtocol.lean ====
/-
# The exchange protocol of the kernel

The mesh is 2 × 2 × 4 and a device's partner is the device with the other first coordinate, eight places away. Each
device announces itself to its partner on the barrier semaphore, brings its block of `x` into fast memory, writes a
narrowed copy of it to a send buffer, waits for the partner's announcement, copies the send buffer into the partner's
receive buffer, and adds what it received to its own block.

This module fixes the vocabulary: the partner map, the four semaphores of the exchange, what each credit on them hands
over, what a device owes at the start, and the order of the semaphores by which every wait is safe.

Of the idealized kernel. The same text serves the other of the two, whose operations are the same.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the exchange: every cell has the single duty `()`. -/
abbrev UX : Type := URounds (GSem nD τ sig) Unit
/-- The pipeline's rounds beside those of the exchange. -/
abbrev UU : Type := UR sig nD τ × UX

local notation "𝕄" => MT nD τ sig Unit (Elt F) ℕ UU ℕ

/-- The pipeline's copy of the rounds. -/
abbrev EP : Emb (UR sig nD τ) (MT nD τ sig Unit (Elt F) ℕ UU ℕ) := embL
/-- The exchange's copy of the rounds. -/
abbrev EX : Emb UX (MT nD τ sig Unit (Elt F) ℕ UU ℕ) := embR

variable (m : (ℓ : Loc nD τ sig) → Buf (Elt F) ℓ)

/-! ## Partners -/

set_option backward.proofsInPublic true in
/-- The partner of a device: the device with the other first mesh coordinate. -/
def peer (c : Dev nD) : Dev nD := ⟨(c.val + 8) % 16, Nat.mod_lt _ (by decide)⟩

/-- The partner of the partner is the device itself. -/
theorem peer_peer (c : Dev nD) : peer (peer c) = c := by revert c; decide

/-- The partner map as a permutation of the devices. -/
def swap : Dev nD ≃ Dev nD := ⟨peer, peer, peer_peer, peer_peer⟩

/-- The signal addresses the partner. -/
theorem dev1_eq (c : Dev nD) : (⟨k0_dev1 c, k0_dev1_lt c⟩ : Dev nD) = peer c := by
  apply Fin.ext; rw [show (⟨k0_dev1 c, k0_dev1_lt c⟩ : Dev nD).val = _ from k0_dev1_eq c]; revert c; decide
/-- The remote copy addresses the partner. -/
theorem dev2_eq (c : Dev nD) : (⟨k0_dev2 c, k0_dev2_lt c⟩ : Dev nD) = peer c := by
  apply Fin.ext; rw [show (⟨k0_dev2 c, k0_dev2_lt c⟩ : Dev nD).val = _ from k0_dev2_eq c]; revert c; decide

/-! ## Buffers and cells -/

/-- The device's block of `x`. -/
abbrev aM : Memref sig .tc .hbm S256x256 .f32 := Memref.whole main_arg0
/-- The result's staging buffer. -/
abbrev oM : Memref sig .tc .vmem S256x256 .f32 := Memref.whole cc0_stg0_0
/-- The block of `x` in fast memory. -/
abbrev xM : Memref sig .tc .vmem S256x256 .f32 := Memref.whole cc0_scratch0
/-- The send buffer. -/
abbrev sM : Memref sig .tc .vmem S256x256 .bf16 := Memref.whole cc0_scratch1
/-- The receive buffer. -/
abbrev rM : Memref sig .tc .vmem S256x256 .bf16 := Memref.whole cc0_scratch2

/-- The barrier semaphore. -/
abbrev barS : Sem sig := (SemArray.scalar (sig.barrier 0 rfl) : Sems sig S_).sem
/-- The semaphore of the local copy. -/
abbrev locS : DmaSem sig := cc0_scratch3.sem
/-- The semaphore of the remote copy's departure. -/
abbrev sndS : DmaSem sig := cc0_scratch4.sem
/-- The semaphore of the remote copy's arrival. -/
abbrev rcvS : DmaSem sig := cc0_scratch5.sem

/-- The four semaphores of the exchange: barrier, local copy, departure, arrival. -/
abbrev csem : Fin 4 → SemLoc sig := fun | 0 => .reg barS | 1 => .dma locS | 2 => .dma sndS | 3 => .dma rcvS
/-- The three of them that belong to the kernel: all but the barrier. -/
abbrev osem : Fin 3 → SemLoc sig := fun | 0 => .dma locS | 1 => .dma sndS | 2 => .dma rcvS
/-- Semaphore `k` of the exchange on device `c`. -/
abbrev cell (c : Dev nD) (k : Fin 4) : GSem nD τ sig := ((c : Thread nD τ), csem k)

/-- Which of the four a semaphore is (the barrier when it is none of the others). -/
def which (sm : SemLoc sig) : Fin 4 := if sm = csem 1 then 1 else if sm = csem 2 then 2 else if sm = csem 3 then 3 else 0
/-- `which` reads the index back. -/
theorem which_csem (k : Fin 4) : which (csem k) = k := by revert k; decide

/-- What the local copy credits. -/
abbrev NL : ℕ := (xM : Memref sig .tc .vmem S256x256 .f32).view.dmaCredit
/-- What the remote copy credits at either end. -/
abbrev NR : ℕ := (rM : Memref sig .tc .vmem S256x256 .bf16).view.dmaCredit

/-- The units a cell receives in all. -/
def units : Fin 4 → ℕ := fun | 0 => 1 | 1 => NL | 2 => NR | 3 => NR
/-- Every cell receives something. -/
theorem units_pos (k : Fin 4) : 0 < units k := by
  fin_cases k
  · exact Nat.one_pos
  all_goals exact View.dmaCredit_pos _ (by decide)

/-! ## Contents -/

/-- The block of `x` device `c` starts with. -/
def xAt (c : Dev nD) : Vec F S256x256 .f32 := m ((c : Thread nD τ).loc main_arg0)
/-- What device `c` sends: its block, narrowed. -/
def sAt (c : Dev nD) : Vec F S256x256 .bf16 := k0_pay2 (xAt m c)
/-- What device `c` computes: its block plus what its partner sent. -/
def outAt (c : Dev nD) : Vec F S256x256 .f32 := k0_pay1 (xAt m c) (sAt m (peer c))

/-- Device `c` holds its block of `x` in slow memory. -/
def argPts (c : Dev nD) : sProp 𝕄 :=
  (aM : Memref sig .tc .hbm S256x256 .f32).view.loc (c : Thread nD τ) ↦[(aM : Memref sig .tc .hbm S256x256 .f32).view.set]{fullShare} xAt m c
/-- Device `c`'s fast-memory block holds `f`. -/
def xPts (c : Dev nD) (f : Vec F S256x256 .f32) : sProp 𝕄 :=
  (xM : Memref sig .tc .vmem S256x256 .f32).view.loc (c : Thread nD τ) ↦[(xM : Memref sig .tc .vmem S256x256 .f32).view.set]{fullShare} f
/-- Device `c`'s send buffer holds `f`. -/
def sPts (c : Dev nD) (f : Vec F S256x256 .bf16) : sProp 𝕄 :=
  (sM : Memref sig .tc .vmem S256x256 .bf16).view.loc (c : Thread nD τ) ↦[(sM : Memref sig .tc .vmem S256x256 .bf16).view.set]{fullShare} f
/-- Device `c`'s receive buffer holds `f`. -/
def rPts (c : Dev nD) (f : Vec F S256x256 .bf16) : sProp 𝕄 :=
  (rM : Memref sig .tc .vmem S256x256 .bf16).view.loc (c : Thread nD τ) ↦[(rM : Memref sig .tc .vmem S256x256 .bf16).view.set]{fullShare} f

omit [FloatOps F] in
/-- The device's block of `x`, as ownership of the whole argument buffer. -/
theorem argPts_eq (c : Dev nD) : argPts m c = (((c : Thread nD τ).loc main_arg0) ↦{fullShare} m ((c : Thread nD τ).loc main_arg0) : sProp 𝕄) := by
  unfold argPts; rw [View.set_whole]; rfl
omit [FloatOps F] in
/-- The fast-memory block, as ownership of the whole buffer. -/
theorem xPts_eq (c : Dev nD) (f : Buf (Elt F) ((c : Thread nD τ).loc cc0_scratch0)) : xPts c f = (((c : Thread nD τ).loc cc0_scratch0) ↦{fullShare} f : sProp 𝕄) := by
  unfold xPts; rw [View.set_whole]
omit [FloatOps F] in
/-- The send buffer, as ownership of the whole buffer. -/
theorem sPts_eq (c : Dev nD) (f : Buf (Elt F) ((c : Thread nD τ).loc cc0_scratch1)) : sPts c f = (((c : Thread nD τ).loc cc0_scratch1) ↦{fullShare} f : sProp 𝕄) := by
  unfold sPts; rw [View.set_whole]
omit [FloatOps F] in
/-- The receive buffer, as ownership of the whole buffer. -/
theorem rPts_eq (c : Dev nD) (f : Buf (Elt F) ((c : Thread nD τ).loc cc0_scratch2)) : rPts c f = (((c : Thread nD τ).loc cc0_scratch2) ↦{fullShare} f : sProp 𝕄) := by
  unfold rPts; rw [View.set_whole]

/-! ## What each cell hands over -/

/-- What a complete cell `k` hands device `c`. The barrier: the partner's receive buffer, and that the partner's arrival
    cell is open. The local copy: the block of `x`, in both memories. The departure: the send buffer. The arrival: the
    receive buffer with what the partner sent. -/
def pay (c : Dev nD) : Fin 4 → sProp 𝕄
  | 0 => iprop((∃ f, rPts (peer c) f) ∗ reached EX (cell (peer c) 3) 0)
  | 1 => iprop(xPts c (xAt m c) ∗ argPts m c)
  | 2 => sPts c (sAt m c)
  | 3 => rPts c (sAt m (peer c))

/-- What a cell hands over may be kept in a contract. -/
instance pay_storable (c : Dev nD) (k : Fin 4) : BI.Storable (upEmb : UEmb _ 𝕄) (pay m c k) := by
  fin_cases k <;> simp only [pay, rPts, xPts, argPts, sPts] <;> infer_instance

/-- The four semaphores of a TensorCore. -/
abbrev IsCell (g : GSem nD τ sig) : Prop := g.1.2 = .tc ∧ ∃ k, g.2 = csem k

open Classical in
/-- The schedule: one round, in which each of the four cells of a device is credited once. -/
def sched : Rounds.Schedule (GSem nD τ sig) Unit 𝕄 where
  duties g r := if r = 0 ∧ IsCell g then Finset.univ else ∅
  unitless _ := False
  amount g _ _ := units (which g.2)
  payload g _ _ := pay m g.1.1 (which g.2)
  amount_pos g _ _ _ := units_pos _

/-- So may every payload of the schedule. -/
instance sched_storable (g : GSem nD τ sig) (r : ℕ) (d : Unit) : BI.Storable (upEmb : UEmb _ 𝕄) ((sched m).payload g r d) :=
  pay_storable m g.1.1 (which g.2)

section Sched
variable (c : Dev nD) (k : Fin 4)

/-- Each cell has its duty in the first round, -/
theorem duties_cell : (sched m).duties (cell c k) 0 = Finset.univ := if_pos ⟨rfl, rfl, k, rfl⟩
/-- The duty of a cell is `()`. -/
theorem mem_duties : () ∈ (sched m).duties (cell c k) 0 := by rw [duties_cell]; exact Finset.mem_univ _
/-- and none in a later one. -/
theorem duties_later (g : GSem nD τ sig) : ∀ r, 1 ≤ r → (sched m).duties g r = ∅ := fun r hr => if_neg fun h => by omega
/-- Its credit is all the units of the cell, -/
theorem amount_cell : (sched m).amount (cell c k) 0 () = units k := congrArg units (which_csem k)
/-- and its payload is the cell's. -/
theorem payload_cell : (sched m).payload (cell c k) 0 () = pay m c k := congrArg (pay m c) (which_csem k)
/-- The round of a cell brings its units -/
theorem expect_cell : (sched m).expect (cell c k) 0 = units k := by
  unfold Schedule.expect Schedule.amountOf
  rw [duties_cell]; exact (Finset.sum_singleton _ _).trans (amount_cell m c k)
/-- and hands over its payload. -/
theorem rest_cell : bigSep ((sched m).duties (cell c k) 0 \ ∅) (fun d => (sched m).payload (cell c k) 0 d) = pay m c k := by
  rw [Finset.sdiff_empty, duties_cell]; exact bigSep_singleton.trans (payload_cell m c k)

end Sched

/-! ## What a device owes, and the order of the waits -/

/-- After its signal a device owes its partner the arrival of its copy. -/
def O₁ (c : Dev nD) : CellTallies nD τ sig Unit := tallyAt (cell (peer c) 3) () NR
/-- At the start it also owes its partner the signal. -/
def O₀ (c : Dev nD) : CellTallies nD τ sig Unit := O₁ c + tallyAt (cell (peer c) 0) () 1

/-- The index at which credits on a TensorCore's semaphores are kept. -/
def L (g : GSem nD τ sig) : Finset Unit := if g.1.2 = .tc then {()} else ∅
/-- The order of the semaphores: the barrier below the arrival, every other one below both. -/
def lv (g : GSem nD τ sig) (_ : Unit) : ℕ := if g.2 = csem 3 then 2 else if g.2 = csem 0 then 1 else 0

/-- The four cells' places in the order. -/
theorem lv_cell (c : Dev nD) (k : Fin 4) : lv (cell c k) () = (match k with | 0 => 1 | 1 => 0 | 2 => 0 | 3 => 2) := by
  show (if csem k = csem 3 then 2 else if csem k = csem 0 then 1 else 0) = _
  revert k; decide

/-- Other cores keep no credits. -/
theorem L_of_ne (g : GSem nD τ sig) (h : g.1.2 ≠ .tc) : L g = ∅ := if_neg h
/-- A TensorCore keeps credits on each of its semaphores. -/
theorem mem_L (c : Dev nD) (sm : SemLoc sig) : () ∈ L ((c : Thread nD τ), sm) := by rw [L, if_pos rfl]; exact Finset.mem_singleton_self _

/-- After its signal a device owes on no cell but the arrival of its partner. -/
theorem O₁_pos {c : Dev nD} {g : GSem nD τ sig} {u : Unit} (h : 0 < O₁ c g u) : g = cell (peer c) 3 := by
  by_contra hn
  rw [O₁, tallyAt_apply, if_neg fun h' => hn h'.1] at h
  exact Nat.lt_irrefl 0 h
/-- At the start it owes on no cell but its partner's arrival and barrier. -/
theorem O₀_pos {c : Dev nD} {g : GSem nD τ sig} {u : Unit} (h : 0 < O₀ c g u) : g = cell (peer c) 3 ∨ g = cell (peer c) 0 := by
  rw [O₀, Pi.add_apply, Finsupp.add_apply] at h
  rcases Nat.pos_of_ne_zero (Nat.ne_of_gt h) |> Nat.add_pos_iff_pos_or_pos.mp with h | h
  · exact .inl (O₁_pos h)
  · right; by_contra hn
    rw [tallyAt_apply, if_neg fun h' => hn h'.1] at h
    exact Nat.lt_irrefl 0 h

omit [FloatOps F] in
/-- A wait is safe when the cell waited on is below every cell still owed to. -/
theorem mayWait (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp]; exact mem_L c sm)
    (fun g u hg => by rw [L, if_pos (h g u hg).1]; exact Finset.mem_singleton_self _)
    (fun p hp => by rw [Finset.mem_singleton.mp hp])
    (fun g u hg => (h g u hg).2)

omit [FloatOps F] in
/-- Before its signal a device may wait on any semaphore below the barrier's level, -/
theorem mayWait₀ (c : Dev nD) (sm : SemLoc sig) (h : lv ((c : Thread nD τ), sm) () = 0) : (levAts L lv : sProp 𝕄) ⊢ MayWait (c : Thread nD τ) sm () (O₀ c) :=
  mayWait c sm _ fun g u hg => by
    rw [h]
    rcases O₀_pos hg with rfl | rfl
    · exact ⟨rfl, by rw [lv_cell]; decide⟩
    · exact ⟨rfl, by rw [lv_cell]; decide⟩
omit [FloatOps F] in
/-- and after it on any below the arrival's. -/
theorem mayWait₁ (c : Dev nD) (sm : SemLoc sig) (h : lv ((c : Thread nD τ), sm) () < 2) : (levAts L lv : sProp 𝕄) ⊢ MayWait (c : Thread nD τ) sm () (O₁ c) :=
  mayWait c sm _ fun g u hg => by rw [O₁_pos hg]; exact ⟨rfl, by rw [lv_cell]; exact h⟩

/-! ## What a device starts from -/

/-- The facts everyone may use: each cell's contract is in force (under the names `K`), and its first round is open. -/
def records (K : Dev nD × Fin 4 → ℕ) : sProp 𝕄 :=
  iprop((bigSep Finset.univ fun ck : Dev nD × Fin 4 => cellInv EX (sched m) (K ck) (cell ck.1 ck.2))
    ∗ bigSep Finset.univ fun ck : Dev nD × Fin 4 => reached EX (cell ck.1 ck.2) 0)

/-- The facts everyone may use can be used any number of times. -/
instance records_persistent (K : Dev nD × Fin 4 → ℕ) : BI.Persistent (records m K) := by unfold records; infer_instance

/-- They include each cell's contract, -/
theorem records_inv (K : Dev nD × Fin 4 → ℕ) (c : Dev nD) (k : Fin 4) : records m K ⊢ cellInv EX (sched m) (K (c, k)) (cell c k) := by
  unfold records
  exact sep_elim_left.trans (bigSep_elim (Φ := fun ck : Dev nD × Fin 4 => cellInv EX (sched m) (K ck) (cell ck.1 ck.2)) (Finset.mem_univ (c, k)))
/-- and that each cell's first round is open. -/
theorem records_reached (K : Dev nD × Fin 4 → ℕ) (c : Dev nD) (k : Fin 4) : records m K ⊢ reached EX (cell c k) 0 := by
  unfold records
  exact sep_elim_right.trans (bigSep_elim (Φ := fun ck : Dev nD × Fin 4 => (reached EX (cell ck.1 ck.2) 0 : sProp 𝕄)) (Finset.mem_univ (c, k)))

/-- Device `c` is at the start of its four cells. -/
def places (c : Dev nD) : sProp 𝕄 :=
  iprop(atPos EX (cell c 0) 0 ∅ 0 ∗ atPos EX (cell c 1) 0 ∅ 0 ∗ atPos EX (cell c 2) 0 ∅ 0 ∗ atPos EX (cell c 3) 0 ∅ 0)
/-- The rights to the four credits device `c` makes: its partner's barrier and arrival, its own local copy and departure. -/
def rights (c : Dev nD) : sProp 𝕄 :=
  iprop(dutyTok EX (cell (peer c) 0) 0 () ∗ dutyTok EX (cell c 1) 0 () ∗ dutyTok EX (cell c 2) 0 () ∗ dutyTok EX (cell (peer c) 3) 0 ())
/-- The state of the exchange that device `c` starts from. -/
def ghost (K : Dev nD × Fin 4 → ℕ) (c : Dev nD) : sProp 𝕄 := iprop(records m K ∗ places c ∗ rights c)
/-- What it may count on receiving: the signal and the arrival. -/
def dues (c : Dev nD) : sProp 𝕄 := iprop(cred (tallyAt (cell c 0) () 1) ∗ cred (tallyAt (cell c 3) () NR))

end Cert.KernelIdeal.Exchange

end
-- ==== Proof.KernelIdealBody.lean ====
/-
# One device runs the exchange

First one rule for each kind of step the kernel takes on the four semaphores — the signal, the local copy, the remote
copy, a wait —, each stated in the vocabulary of the protocol. Then the kernel's body from start to end: it leaves the
device's block plus what the partner sent in the result's staging buffer, and all four semaphores at zero.

Of the idealized kernel. The same text serves the other of the two, whose operations are the same.
-/
module

public import proofs.«01_k».proof.Proof.KernelIdealProtocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of this program is bounded by a variant. -/
abbrev 𝒱₀ : Variants := Variants.none

/-- Device `c` owes `O`, whatever it has waited on so far. -/
def owing (c : Dev nD) (O : CellTallies nD τ sig Unit) : sProp 𝕄 := iprop(∃ W, owes (c : Thread nD τ) O W)

/-! ## The steps -/

section Steps

variable (K : Dev nD × Fin 4 → ℕ) (c : Dev nD)
variable {α : Type} {Q : α → sProp (MT nD τ sig Unit (Elt F) ℕ UU ℕ)} {k : PUnit → Prog (TpuEff nD τ sig (Elt F) Λ₀ .tc) α}

/-- The signal to the partner hands over the device's receive buffer and settles what it owes on the barrier. -/
theorem wp_announce (n : Dev nD) (hn : n = peer c) (u : ℕ) (hu : u = 1) :
    iprop(records m K ∗ owing c (O₀ c) ∗ dutyTok EX (cell (peer c) 0) 0 () ∗ ∃ f, rPts c f)
      ⊢ iprop((owing c (O₁ c) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS u) k) Q) := by
  subst hn hu
  unfold owing
  iintro ⟨#HR, ⟨%W, HO⟩, Ht, Hr⟩ Hk
  iapply (Rounds.wp_signal 𝒱₀ EX (sched m) (c : Thread nD τ) none (dst := (peer c : Thread nD τ)) (κ := K (peer c, 0)) (r := 0) (d := ())
      (mem_duties m (peer c) 0) (amount_cell m (peer c) 0) () (O₁ c) rfl) $$ [HO Ht Hr]
  · isplitr; · iapply (records_inv m K (peer c) 0); iexact HR
    isplitl [HO]; · iexact HO
    isplitl [Ht]; · iexact Ht
    isplitl [Hr]
    · rw [show (sched m).payload ((peer c : Thread nD τ), .reg barS) 0 () = pay m (peer c) 0 from payload_cell m (peer c) 0]
      unfold pay; rw [peer_peer]
      isplitl [Hr]; · iexact Hr
      iapply (records_reached m K c 3); iexact HR
    · iapply (records_reached m K (peer c) 0); iexact HR
  iintro HO
  iapply Hk
  iexists W; iexact HO

/-- What the local copy leaves in fast memory is the device's block. -/
theorem landed_x (fd : Buf (Elt F) ((xM : Memref sig .tc .vmem S256x256 .f32).view.loc (c : Thread nD τ))) :
    (xM : Memref sig .tc .vmem S256x256 .f32).view.write (Elt F) fd ((aM : Memref sig .tc .hbm S256x256 .f32).view.read (Elt F) (xAt m c)) Finset.univ = xAt m c := by
  simp only [Memref.view_whole, View.read_whole]
  exact View.write_whole_univ ..

/-- The local copy takes both blocks and leaves the promise of its credit. -/
theorem wp_fetch {hsrc : (aM : Memref sig .tc .hbm S256x256 .f32).view.WordExact} {hdst : (xM : Memref sig .tc .vmem S256x256 .f32).view.WordExact}
    {hsem : DmaTarget.Typed (nD := nD) .hbm (.dma locS) (DmaTarget.here (τ := τ) (p := .tc) (xM : Memref sig .tc .vmem S256x256 .f32))} :
    iprop(records m K ∗ dutyTok EX (cell c 1) 0 () ∗ argPts m c ∗ ∃ f, xPts c f)
      ⊢ iprop((cred (tallyAt (cell c 1) () (units 1)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma aM (.here xM) (.dma locS) hsrc hdst hsem) k) Q) := by
  iintro ⟨#HR, Ht, Ha, ⟨%f, Hx⟩⟩ Hk
  unfold argPts xPts
  iapply (Rounds.wp_copy_pointsTo 𝒱₀ EX (sched m) (c : Thread nD τ) none (κ := K (c, 1)) (r := 0) (d := ()) (fd := f)
      (mem_duties m c 1) () (units 1) rfl (amount_cell m c 1)
      (by rw [show (sched m).payload ((c : Thread nD τ), .dma locS) 0 () = pay m c 1 from payload_cell m c 1, landed_x]
          exact Entails.refl _)) $$ [Ht Ha Hx]
  · isplitr; · iapply (records_inv m K c 1); iexact HR
    isplitl [Ha]; · iexact Ha
    isplitl [Hx]; · iexact Hx
    isplitl [Ht]; · iexact Ht
    iapply (records_reached m K c 1); iexact HR
  iexact Hk

/-- What the remote copy leaves in the partner's receive buffer is what was in the send buffer. -/
theorem landed_r (fd : Buf (Elt F) ((rM : Memref sig .tc .vmem S256x256 .bf16).view.loc (peer c : Thread nD τ))) :
    (rM : Memref sig .tc .vmem S256x256 .bf16).view.write (Elt F) fd ((sM : Memref sig .tc .vmem S256x256 .bf16).view.read (Elt F) (sAt m c)) Finset.univ = sAt m c := by
  simp only [Memref.view_whole, View.read_whole]
  exact View.write_whole_univ ..

/-- The remote copy takes the send buffer and the partner's receive buffer, settles the last debt, and leaves the promise
    of the departure's credit. -/
theorem wp_exchange (n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma rcvS) (.remote (Dev.tc n : Thread nD τ) (rM : Memref sig .tc .vmem S256x256 .bf16) (.dma sndS) hsc)} :
    iprop(records m K ∗ sPts c (sAt m c) ∗ (∃ f, rPts (peer c) f) ∗ owing c (O₁ c)
        ∗ dutyTok EX (cell c 2) 0 () ∗ dutyTok EX (cell (peer c) 3) 0 ())
      ⊢ iprop(((cred (tallyAt (cell c 2) () (units 2)) ∗ owing c 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sndS) hsc) (.dma rcvS) hsrc hdst hsem) k) Q) := by
  subst hn
  unfold owing sPts rPts
  iintro ⟨#HR, Hs, ⟨%f, Hr⟩, ⟨%W, HO⟩, Ht2, Ht3⟩ Hk
  iapply (Rounds.wp_send_pointsTo 𝒱₀ EX (sched m) (c : Thread nD τ) none (κ₁ := K (c, 2)) (κ₂ := K (peer c, 3))
      (r₁ := 0) (r₂ := 0) (d₁ := ()) (d₂ := ()) (fd := f) (mem_duties m c 2) (mem_duties m (peer c) 3)
      () () NR rfl (amount_cell m c 2) (amount_cell m (peer c) 3) 0 (O₀ := O₁ c) (by rw [zero_add]; rfl) (W := W)
      (by rw [show (sched m).payload ((c : Thread nD τ), .dma sndS) 0 () = pay m c 2 from payload_cell m c 2]; exact Entails.refl _)
      (by rw [show (sched m).payload ((peer c : Thread nD τ), .dma rcvS) 0 () = pay m (peer c) 3 from payload_cell m (peer c) 3, landed_r]
          unfold pay rPts; rw [peer_peer])) $$ [Hs Hr HO Ht2 Ht3]
  · isplitr; · iapply (records_inv m K c 2); iexact HR
    isplitr; · iapply (records_inv m K (peer c) 3); iexact HR
    isplitl [Hs]; · iexact Hs
    isplitl [Hr]; · iexact Hr
    isplitl [HO]; · iexact HO
    isplitl [Ht2]; · iexact Ht2
    isplitr; · iapply (records_reached m K c 2); iexact HR
    isplitl [Ht3]; · iexact Ht3
    iapply (records_reached m K (peer c) 3); iexact HR
  iintro ⟨Hc, HO⟩
  iapply Hk
  isplitl [Hc]; · iexact Hc
  iexists W; iexact HO

/-- A wait for all that a cell of the device is due: its payload is handed over, and its counter is back at zero for
    good. -/
theorem wp_collect (j : Fin 4) (u : ℕ) (hu : u = units j) {w : TpuEff nD τ sig (Elt F) Λ₀ .tc PUnit} {O : CellTallies nD τ sig Unit}
    (hw : ∀ R : PUnit → sProp 𝕄, wpE (defs₀ (F := F)) 𝒱₀ (c : Thread nD τ) none Set.univ w R = waitSpec (c : Thread nD τ) Set.univ (csem j) u R) :
    iprop(records m K ∗ cred (tallyAt (cell c j) () (units j)) ∗ owing c O ∗ MayWait (c : Thread nD τ) (csem j) () O ∗ atPos EX (cell c j) 0 ∅ 0)
      ⊢ iprop(((owing c O ∗ semVal (cell c j) 0 ∗ pay m c j) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hu
  unfold owing
  iintro ⟨#HR, Hc, ⟨%W, HO⟩, HM, Hat⟩ Hk
  iapply (Rounds.wp_wait_rest_token 𝒱₀ EX (sched m) (c : Thread nD τ) none (κ := K (c, j)) hw (Set.mem_univ _) () (O := O) (W := W)
      (R := 0) (m := 0) (T := ∅) (by rw [Nat.zero_add]; exact (expect_cell m c j).symm)) $$ [Hc HO HM Hat]
  · isplitr; · iapply (records_inv m K c j); iexact HR
    isplitl [Hc]; · iexact Hc
    isplitl [HO]; · iexact HO
    isplitl [HM]; · iexact HM
    iexact Hat
  iintro ⟨HO, Hat, -, Hp⟩
  ihave Hp := (Entails.of_eq (rest_cell m c j)) $$ Hp
  imod (Rounds.cell_close EX (sched m) (Set.mem_univ (K (c, j))) (fun h => h) (R := 0 + 1) (duties_later m (cell c j))) $$ [Hat] with Hz
  · isplitr; · iapply (records_inv m K c j); iexact HR
    iexact Hat
  iapply Hk
  isplitl [HO]; · iexists _; iexact HO
  isplitl [Hz]; · iexact Hz
  iexact Hp

end Steps

/-! ## Reads and writes of whole buffers -/

/-- The rectangle every load and store takes: the whole buffer. -/
abbrev full : Rect S256x256 := Rect.unit (s := S256x256) ![0, 0] S256x256.size inb_S256x256_S256x256_0_0

omit [FloatOps F] in
/-- The rectangle starts at the corner. -/
theorem corner : (![0, 0] : Fin 2 → Nat) = fun _ => 0 := funext fun a => by fin_cases a <;> rfl
omit [FloatOps F] in
/-- Reading it from the fast-memory block gives all the contents, -/
theorem read_x (f : (cc0_scratch0 : Ref sig .tc).ty.Contents (Elt F)) : (xM : Memref sig .tc .vmem S256x256 .f32).view.readAt (Elt F) full.toLoadRect f = f :=
  Memref.readAt_unit_zero (Elt F) cc0_scratch0 corner _ f
omit [FloatOps F] in
/-- and so from the receive buffer. -/
theorem read_r (f : (cc0_scratch2 : Ref sig .tc).ty.Contents (Elt F)) : (rM : Memref sig .tc .vmem S256x256 .bf16).view.readAt (Elt F) full.toLoadRect f = f :=
  Memref.readAt_unit_zero (Elt F) cc0_scratch2 corner _ f
omit [FloatOps F] in
/-- Writing it to the send buffer replaces all the contents, -/
theorem write_s (f w : (cc0_scratch1 : Ref sig .tc).ty.Contents (Elt F)) :
    ((sM : Memref sig .tc .vmem S256x256 .bf16).access full : View sig .tc _ _ _).write (Elt F) f w Finset.univ = w :=
  Memref.write_access_unit_zero_univ (Elt F) cc0_scratch1 corner _ f w
omit [FloatOps F] in
/-- and so to the result's staging buffer. -/
theorem write_o (f w : (cc0_stg0_0 : Ref sig .tc).ty.Contents (Elt F)) :
    ((oM : Memref sig .tc .vmem S256x256 .f32).access full : View sig .tc _ _ _).write (Elt F) f w Finset.univ = w :=
  Memref.write_access_unit_zero_univ (Elt F) cc0_stg0_0 corner _ f w

/-! ## The body -/

/-- What device `c` brings to the body beside its staging buffer. -/
def start (c : Dev nD) : sProp 𝕄 := iprop((∃ K, ghost m K c) ∗ dues c ∗ levAts L lv ∗ argPts m c)
/-- What it holds when the body begins: its start and its three buffers with some contents, -/
def before (c : Dev nD) : sProp 𝕄 := iprop(start m c ∗ (∃ f, xPts c f) ∗ (∃ f, sPts c f) ∗ ∃ f, rPts c f)
/-- and when it ends: its block untouched, its three buffers, and its four semaphores at zero. -/
def after (c : Dev nD) : sProp 𝕄 :=
  iprop((argPts m c ∗ (∃ f, xPts c f) ∗ (∃ f, sPts c f) ∗ ∃ f, rPts c f)
    ∗ semVal (cell c 0) 0 ∗ semVal (cell c 1) 0 ∗ semVal (cell c 2) 0 ∗ semVal (cell c 3) 0)

/-- The result's staging buffer holds `f`. -/
def oPts (c : Dev nD) (f : Buf (Elt F) ((c : Thread nD τ).loc cc0_stg0_0)) : sProp 𝕄 := ((c : Thread nD τ).loc cc0_stg0_0) ↦{fullShare} f

set_option maxHeartbeats 1600000 in
/-- The body of device `c`: from `before` and what it owes at the start, to `after`, nothing owed, and the sum in the
    result's staging buffer. -/
theorem sound_body (c : Dev nD) (Kt : PUnit → sProp 𝕄) :
    iprop((before m c ∗ owing c (O₀ c) ∗ ∃ f, oPts c f) ∗ ((after m c ∗ owing c 0 ∗ oPts c (outAt m c)) -∗ Kt ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before start ghost places rights dues oPts
  iintro ⟨⟨⟨⟨⟨%K, #HR, ⟨Ha0, Ha1, Ha2, Ha3⟩, Ht0, Ht1, Ht2, Ht3⟩, ⟨Hc0, Hc3⟩, #Hlev, Harg⟩, Hx, ⟨%fs, Hs⟩, Hr⟩, HO, ⟨%fo, Hout⟩⟩, Hk⟩
  -- the block is fetched
  iapply (wp_fetch m K c) $$ [Ht1 Harg Hx]
  · isplitr; · iexact HR
    isplitl [Ht1]; · iexact Ht1
    isplitl [Harg]; · iexact Harg
    iexact Hx
  iintro Hc1
  -- the partner is told
  iapply (wp_announce m K c _ (dev1_eq c) _ (by decide)) $$ [HO Ht0 Hr]
  · isplitr; · iexact HR
    isplitl [HO]; · iexact HO
    isplitl [Ht0]; · iexact Ht0
    iexact Hr
  iintro HO
  -- the block has arrived
  iapply (wp_collect m K c 1 NL rfl (O := O₁ c) (wpE_waitDma2_eq 𝒱₀ (c : Thread nD τ) none Set.univ)) $$ [Hc1 HO Ha1]
  · isplitr; · iexact HR
    isplitl [Hc1]; · iexact Hc1
    isplitl [HO]; · iexact HO
    isplitr; · iapply (mayWait₁ c (csem 1) (by rw [lv_cell]; decide)); iexact Hlev
    iexact Ha1
  unfold pay
  iintro ⟨HO, Hz1, Hx, Harg⟩
  -- its narrowed copy is put into the send buffer
  unfold xPts sPts
  iapply (wp_load 𝒱₀ (c : Thread nD τ) none Set.univ (m := xM) (by rw [View.set_whole]; exact Finset.subset_univ _)) $$ Hx; iintro Hx
  rw [read_x]
  iapply (wp_load 𝒱₀ (c : Thread nD τ) none Set.univ (m := sM) (by rw [View.set_whole]; exact Finset.subset_univ _)) $$ Hs; iintro Hs
  iapply (wp_store 𝒱₀ (c : Thread nD τ) none Set.univ (m := sM) (r := full) (Mk := Finset.univ) (by rw [View.set_whole]; exact Finset.subset_univ _)) $$ Hs; iintro Hs
  rw [write_s]
  -- the partner is ready
  iapply (wp_collect m K c 0 1 rfl (O := O₁ c) (wpE_semWait_eq 𝒱₀ (c : Thread nD τ) none Set.univ)) $$ [Hc0 HO Ha0]
  · isplitr; · iexact HR
    isplitl [Hc0]; · iexact Hc0
    isplitl [HO]; · iexact HO
    isplitr; · iapply (mayWait₁ c (csem 0) (by rw [lv_cell]; decide)); iexact Hlev
    iexact Ha0
  unfold pay
  iintro ⟨HO, Hz0, Hr, -⟩
  -- the send buffer goes to the partner
  iapply (wp_exchange m K c _ (dev2_eq c)) $$ [Hs Hr HO Ht2 Ht3]
  · isplitr; · iexact HR
    isplitl [Hs]; · unfold sPts; iexact Hs
    isplitl [Hr]; · iexact Hr
    isplitl [HO]; · iexact HO
    isplitl [Ht2]; · iexact Ht2
    iexact Ht3
  iintro ⟨Hc2, HO⟩
  -- the partner's block has arrived
  iapply (wp_collect m K c 3 NR rfl (O := 0) (wpE_waitDma2_eq 𝒱₀ (c : Thread nD τ) none Set.univ)) $$ [Hc3 HO Ha3]
  · isplitr; · iexact HR
    isplitl [Hc3]; · iexact Hc3
    isplitl [HO]; · iexact HO
    isplitr; · rw [MayWait_zero]; iempintro
    iexact Ha3
  unfold pay rPts
  iintro ⟨HO, Hz3, Hr⟩
  -- the sum
  iapply (wp_load 𝒱₀ (c : Thread nD τ) none Set.univ (m := xM) (by rw [View.set_whole]; exact Finset.subset_univ _)) $$ Hx; iintro Hx
  rw [read_x]
  iapply (wp_load 𝒱₀ (c : Thread nD τ) none Set.univ (m := rM) (by rw [View.set_whole]; exact Finset.subset_univ _)) $$ Hr; iintro Hr
  rw [read_r]
  iapply (wp_load 𝒱₀ (c : Thread nD τ) none Set.univ (m := oM) (Finset.subset_univ _)) $$ Hout; iintro Hout
  iapply (wp_store 𝒱₀ (c : Thread nD τ) none Set.univ (m := oM) (r := full) (Mk := Finset.univ) (Finset.subset_univ _)) $$ Hout; iintro Hout
  rw [write_o]
  -- the send buffer is free again
  iapply (wp_collect m K c 2 (sM : Memref sig .tc .vmem S256x256 .bf16).view.dmaCredit rfl (O := 0) (wpE_waitDma2_eq 𝒱₀ (c : Thread nD τ) none Set.univ)) $$ [Hc2 HO Ha2]
  · isplitr; · iexact HR
    isplitl [Hc2]; · iexact Hc2
    isplitl [HO]; · iexact HO
    isplitr; · rw [MayWait_zero]; iempintro
    iexact Ha2
  unfold pay
  iintro ⟨HO, Hz2, Hs⟩
  rw [wp_ret]; imodintro
  iapply Hk
  unfold after
  isplitl [Harg Hx Hs Hr Hz0 Hz1 Hz2 Hz3]
  · isplitl [Harg Hx Hs Hr]
    · isplitl [Harg]; · iexact Harg
      isplitl [Hx]; · iexists _; unfold xPts; iexact Hx
      isplitl [Hs]; · iexists _; iexact Hs
      iexists _; unfold rPts; iexact Hr
    isplitl [Hz0]; · iexact Hz0
    isplitl [Hz1]; · iexact Hz1
    isplitl [Hz2]; · iexact Hz2
    iexact Hz3
  isplitl [HO]; · iexact HO
  iexact Hout

end Cert.KernelIdeal.Exchange

end
-- ==== Proof.KernelIdealRun.lean ====
/-
# The whole mesh runs

The launch: the credits and contracts of the exchange are dealt to the devices, every device runs its body, and the
final memory is read. The main theorem says that every run ends, with each device's result holding its block plus what
its partner sent, its argument as it was, and every semaphore at zero.

Of the idealized kernel. The same text serves the other of the two, whose operations are the same.
-/
module

public import proofs.«01_k».proof.Proof.KernelIdealBody
public import Idealize.ShloMosaic.Lib.Pipeline.CollectiveSegs
public import Idealize.ShloMosaic.Lib.Pipeline.ValueKit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state: any memory, every semaphore at zero. -/
abbrev s₀ : MemSt nD τ sig (Elt F) := ⟨m, fun _ => 0, ρ⟩

/-! ## The one grid point -/

/-- The grid has one point. -/
theorem cfg0_N : cfg0.N = 1 := by decide
/-- The only point of the grid. -/
def point : Fin cfg0.N := ⟨0, by rw [cfg0_N]; decide⟩
/-- Every point of the grid is that one. -/
theorem eq_point (t : Fin cfg0.N) : t = point := by
  obtain ⟨t, ht⟩ := t; have := cfg0_N; exact Fin.ext (by simp only [point]; omega)

/-- The data of the run on device `c`: the result's contents, what is held and what is owed, before and after the
    point. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => before m c
    | ⟨_ + 1, _⟩ => after m c
  q _ := fullShare
  owed t := match t with
    | ⟨0, _⟩ => O₀ c
    | ⟨_ + 1, _⟩ => 0

omit [FloatOps F] in
/-- Ownership of a whole buffer is a points-to of its contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxRecDepth 4000 in
/-- The body meets its obligation at the point. -/
theorem body_obligation (c : Dev nD) : BodyObligation (dats (F := F) m 0 c) (defs₀ (F := F)) 𝒱₀ () Set.univ := fun t => by
  rw [eq_point t, bigSep_W0, bigSep_W0]
  show iprop(before m c ∗ (dats m 0 c).owesAt () point.castSucc
      ∗ (∃ d, owns (c : Thread nD τ) (Memref.whole cc0_stg0_0) fullShare ((dats m 0 c).before (0 : Fin 1) point d)))
    ⊢ wp frame (wpE (defs₀ (F := F)) 𝒱₀ (c : Thread nD τ) none) Set.univ
      (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5)
      (fun _ => iprop(after m c ∗ (dats m 0 c).owesAt () point.succ ∗ owns (c : Thread nD τ) (Memref.whole cc0_stg0_0) fullShare (outAt m c)))
  simp only [owns_whole]
  unfold Dat.owesAt Pipeline.owesWithin
  rw [show (dats m 0 c).owed point.castSucc = O₀ c from rfl, show (dats m 0 c).owed point.succ = 0 from rfl]
  iintro ⟨Hb, ⟨%W, %hW, HO⟩, ⟨%d, %f, %hf, Hout⟩⟩
  iapply (sound_body m c)
  unfold owing oPts
  isplitl
  · isplitl [Hb]; · iexact Hb
    isplitl [HO]; · iexists W; iexact HO
    iexists f; iexact Hout
  iintro ⟨Ha, ⟨%W', HO⟩, Hout⟩
  isplitl [Ha]; · iexact Ha
  isplitl [HO]
  · iexists W'
    isplitr; · ipureintro; exact fun _ _ => Or.inl trivial
    iexact HO
  iexists _; isplitr; · (ipureintro; rfl)
  iexact Hout

/-! ## Dealing out the exchange -/

/-- The kernel's own three semaphores are distinct and none of the staging ones. -/
theorem ownSemFacts : Pipeline.OwnSemFacts cfg0.spec osem := by decide

/-- The four semaphores are distinct. -/
theorem csem_injective : Function.Injective csem := fun a b h => by rw [← which_csem a, h, which_csem]
/-- Distinct devices and indices name distinct cells. -/
theorem cell_injective : Function.Injective (fun ck : Dev nD × Fin 4 => cell ck.1 ck.2) := fun a b h =>
  Prod.ext (congrArg (fun g : GSem nD τ sig => g.1.1) h) (csem_injective (congrArg Prod.snd h))

/-- All cells of the exchange. -/
def allCells : Finset (GSem nD τ sig) := Finset.univ.map ⟨fun ck : Dev nD × Fin 4 => cell ck.1 ck.2, cell_injective⟩
/-- All its duties: one for each cell. -/
def allToks : Finset (GSem nD τ sig × ℕ × Unit) :=
  Finset.univ.map ⟨fun ck : Dev nD × Fin 4 => (cell ck.1 ck.2, 0, ()), fun _ _ h => cell_injective (congrArg Prod.fst h)⟩

/-- The initial state of both copies of the rounds. -/
def u₀ : UU :=
  (initOf (Pipeline.cells cfgs cellOf_inj) (Pipeline.launchToks cfgs cellOf_inj), initOf allCells allToks)

/-- What is dealt to device `c`: for each of its cells the cell's state, the place at its start, that its first round is
    open, and the right to its credit. -/
def dealt (c : Dev nD) : sProp 𝕄 :=
  iprop((bigSep Finset.univ fun k : Fin 4 => roundState EX (sched m) (cell c k) 0)
    ∗ (bigSep Finset.univ fun k : Fin 4 => atPos EX (cell c k) 0 ∅ 0)
    ∗ (bigSep Finset.univ fun k : Fin 4 => reached EX (cell c k) 0)
    ∗ (bigSep Finset.univ fun k : Fin 4 => dutyTok EX (cell c k) 0 ()))

/-- What each device has once the contracts are in force. -/
def ready (c : Dev nD) : sProp 𝕄 := iprop(∃ K, ghost m K c)

omit [FloatOps F] in
/-- A conjunction over four indices, written out. -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- The initial state of the exchange, dealt to the devices. -/
theorem fund_exchange : BI.own (EX (initOf allCells allToks)) ⊢ (|==> bigSep Finset.univ (dealt m) : sProp 𝕄) := by
  have hcells (Φ : GSem nD τ sig → sProp 𝕄) : bigSep allCells Φ = bigSep Finset.univ fun c : Dev nD => bigSep Finset.univ fun k : Fin 4 => Φ (cell c k) := by
    unfold allCells; rw [bigSep_map, bigSep_univ_prod]; rfl
  have htoks : bigSep allToks (fun x => (dutyTok EX x.1 x.2.1 x.2.2 : sProp 𝕄)) = bigSep Finset.univ fun c : Dev nD => bigSep Finset.univ fun k : Fin 4 => dutyTok EX (cell c k) 0 () := by
    unfold allToks; rw [bigSep_map, bigSep_univ_prod]; rfl
  unfold dealt
  simp only [bigSep_sep']
  rw [← htoks, ← hcells (fun g => roundState EX (sched m) g 0), ← hcells (fun g => atPos EX g 0 ∅ 0), ← hcells (fun g => reached EX g 0)]
  iintro H
  imod (Rounds.fund EX (sched m) allCells allToks) $$ H with ⟨Hst, Hr, Hat, Ht⟩
  imodintro
  isplitl [Hst]; · iexact Hst
  isplitl [Hat]; · iexact Hat
  isplitl [Hr]; · iexact Hr
  iexact Ht

omit [FloatOps F] in
/-- The kernel's own semaphores are three of the four, -/
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0) := by
  rw [Pipeline.ownSems0_eq_of_list c osem [0, 1, 2] (by decide) (by decide)]; rfl
omit [FloatOps F] in
/-- and the barrier semaphore is the only other one. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- Device `c` puts the contracts of its four cells in force, all of them at zero. -/
theorem enforce (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 4 => iprop(∃ κ : ℕ, cellInv EX (sched m) κ (cell c k)))
          ∗ (bigSep Finset.univ fun k : Fin 4 => atPos EX (cell c k) 0 ∅ 0)
          ∗ (bigSep Finset.univ fun k : Fin 4 => reached EX (cell c k) 0)
          ∗ (bigSep Finset.univ fun k : Fin 4 => dutyTok EX (cell c k) 0 ())) := by
  have alloc : bigSep Finset.univ (fun k : Fin 4 => iprop(semVal (cell c k) 0 ∗ roundState EX (sched m) (cell c k) 0))
      ⊢ (|={Set.univ}=> bigSep Finset.univ fun k : Fin 4 => iprop(∃ κ : ℕ, cellInv EX (sched m) κ (cell c k)) : sProp 𝕄) :=
    (bigSep_mono fun k _ => (Rounds.body_intro EX (sched m) (cell c k)).trans inv_alloc).trans (bigSep_fupd _ _)
  rw [bigSep_sep', bigSep_four (fun k => semVal (cell c k) 0)] at alloc
  rw [ownSems0_eq, unscopedSems0_eq]
  unfold dealt
  iintro ⟨⟨H1, H2, H3⟩, H0, Hst, Hrest⟩
  imod alloc $$ [H0 H1 H2 H3 Hst] with Hinv
  · isplitr [Hst]
    · isplitl [H0]; · iexact H0
      isplitl [H1]; · iexact H1
      isplitl [H2] <;> iassumption
    iexact Hst
  imodintro
  isplitl [Hinv] <;> iassumption

omit [FloatOps F] in
/-- Each device's rights go where they are used: those to a barrier's and an arrival's credit to the partner. -/
theorem rights_dealt : (bigSep Finset.univ fun c : Dev nD => bigSep Finset.univ fun k : Fin 4 => (dutyTok EX (cell c k) 0 () : sProp 𝕄)) ⊢ bigSep Finset.univ fun c : Dev nD => rights c := by
  unfold rights
  simp only [bigSep_four, bigSep_sep']
  rw [bigSep_univ_equiv swap (fun c : Dev nD => (dutyTok EX (cell c 0) 0 () : sProp 𝕄)),
    bigSep_univ_equiv swap (fun c : Dev nD => (dutyTok EX (cell c 3) 0 () : sProp 𝕄))]
  exact Entails.refl _

/-- The contracts, in force everywhere, are shared by all; every device keeps its places and gets its rights. -/
theorem share_out :
    (bigSep Finset.univ fun c : Dev nD => iprop((bigSep Finset.univ fun k : Fin 4 => iprop(∃ κ : ℕ, cellInv EX (sched m) κ (cell c k)))
          ∗ (bigSep Finset.univ fun k : Fin 4 => atPos EX (cell c k) 0 ∅ 0)
          ∗ (bigSep Finset.univ fun k : Fin 4 => reached EX (cell c k) 0)
          ∗ (bigSep Finset.univ fun k : Fin 4 => dutyTok EX (cell c k) 0 ())) : sProp 𝕄)
      ⊢ bigSep Finset.univ (ready m) := by
  rw [bigSep_sep', bigSep_sep', bigSep_sep',
    ← bigSep_univ_prod (fun ck : Dev nD × Fin 4 => iprop(∃ κ : ℕ, cellInv EX (sched m) κ (cell ck.1 ck.2))),
    ← bigSep_univ_prod (fun ck : Dev nD × Fin 4 => (reached EX (cell ck.1 ck.2) 0 : sProp 𝕄))]
  have hplaces : (bigSep Finset.univ fun c : Dev nD => bigSep Finset.univ fun k : Fin 4 => (atPos EX (cell c k) 0 ∅ 0 : sProp 𝕄)) = bigSep Finset.univ fun c : Dev nD => places c :=
    bigSep_congr fun c _ => by unfold places; rw [bigSep_four]
  rw [hplaces]
  iintro ⟨HI, Hat, #HR, Ht⟩
  ihave HK := (BI.bigSep_exists_pi Finset.univ (fun (ck : Dev nD × Fin 4) (κ : ℕ) => (cellInv EX (sched m) κ (cell ck.1 ck.2) : sProp 𝕄))) $$ HI
  icases HK with ⟨%K, #HI⟩
  ihave Ht := (rights_dealt (F := F)) $$ Ht
  ihave Hall := (BI.bigSep_of_persistent (Finset.univ : Finset (Dev nD)) (records m K)) $$ []
  · unfold records; isplitl; · iexact HI
    iexact HR
  have gather : iprop((bigSep Finset.univ fun _ : Dev nD => records m K) ∗ (bigSep Finset.univ fun c : Dev nD => places c) ∗ bigSep Finset.univ fun c : Dev nD => rights c)
      ⊢ bigSep Finset.univ (ready m) := by
    rw [← bigSep_sep', ← bigSep_sep']
    exact bigSep_mono fun c _ => show iprop(records m K ∗ places c ∗ rights c) ⊢ ready m c from by
      unfold ready ghost; iintro H; iexists K; iexact H
  iapply gather
  isplitl [Hall]; · iexact Hall
  isplitl [Hat] <;> iassumption

/-- Both together: from the semaphores at zero and what was dealt, every device is ready. -/
theorem all_ready : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => enforce m c).trans (bigSep_fupd _ _)).trans (BI.fupd_mono (share_out m))

/-! ## What each cell is owed at the launch -/

/-- The partner owes an arrival its credit, and no one else does. -/
theorem owed_arrival (d c : Dev nD) : O₀ d (cell c 3) () = if d = peer c then NR else 0 := by
  have h3 : O₁ d (cell c 3) () = if d = peer c then NR else 0 := by
    rw [O₁, tallyAt_apply]
    exact if_congr ⟨fun h => by rw [← peer_peer d]; exact (congrArg (fun g : GSem nD τ sig => peer g.1.1) h.1).symm, fun h => ⟨by rw [h, peer_peer], rfl⟩⟩ rfl rfl
  rw [O₀, Pi.add_apply, Finsupp.add_apply, h3, tallyAt_ne_cell (fun h => absurd (show csem 3 = csem 0 from congrArg Prod.snd h) (by decide)), Finsupp.zero_apply, Nat.add_zero]
/-- The partner owes a barrier its signal, and no one else does. -/
theorem owed_signal (d c : Dev nD) : O₀ d (cell c 0) () = if d = peer c then 1 else 0 := by
  rw [O₀, Pi.add_apply, Finsupp.add_apply, O₁, tallyAt_ne_cell (fun h => absurd (show csem 0 = csem 3 from congrArg Prod.snd h) (by decide)), Finsupp.zero_apply, Nat.zero_add, tallyAt_apply]
  exact if_congr ⟨fun h => by rw [← peer_peer d]; exact (congrArg (fun g : GSem nD τ sig => peer g.1.1) h.1).symm, fun h => ⟨by rw [h, peer_peer], rfl⟩⟩ rfl rfl

/-- A cell to which just the partner owes `n` is due `n`. -/
theorem due_of_owed (c : Dev nD) (k : Fin 4) (n : ℕ) (h : ∀ d, O₀ d (cell c k) () = if d = peer c then n else 0) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
/-- At the launch a device may count on its partner's signal and copy. -/
theorem dues_intro (c : Dev nD) : (Pipeline.launchCred O₀ c : sProp 𝕄) ⊢ dues c := by
  unfold Pipeline.launchCred dues
  rw [bigSep_univ_at _ (csem 0), due_of_owed c 0 1 fun d => owed_signal d c, ← due_of_owed c 3 NR fun d => owed_arrival d c]
  exact sep_mono_right (bigSep_elim (Finset.mem_erase.mpr ⟨by decide, Finset.mem_univ (csem 3)⟩))

/-! ## Entry and exit -/

/-- At the launch a device has its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq]
  unfold start ready
  rw [argPts_eq]
  iintro ⟨Ha, Hlev, Hcr, -, HG⟩
  ihave Hc := (dues_intro (F := F) c) $$ Hcr
  imodintro
  isplitl
  · isplitl [HG]; · iexact HG
    isplitl [Hc]; · iexact Hc
    isplitl [Hlev]; · iexact Hlev
    iexact Ha
  · iempintro

/-- With its scratch buffers it has what the body begins with. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f0, H0⟩, ⟨%f1, H1⟩, ⟨%f2, H2⟩⟩
  isplitl [Hs]; · iexact Hs
  isplitl [H0]; · iexists f0; rw [xPts_eq]; iexact H0
  isplitl [H1]; · iexists f1; rw [sPts_eq]; iexact H1
  iexists f2; rw [rPts_eq]; iexact H2

/-- What a device keeps past the kernel: its barrier at zero and its argument. -/
def kept (c : Dev nD) : sProp 𝕄 := iprop(unscopedSems0 c ∗ ((c : Thread nD τ).loc main_arg0) ↦{fullShare} m ((c : Thread nD τ).loc main_arg0))

/-- What the body ends with gives back the kernel's buffers and semaphores, and leaves what is kept. -/
theorem after_elim (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = after m c from rfl, scopedRest0_eq, ownSems0_eq]
  unfold after kept
  rw [unscopedSems0_eq, argPts_eq]
  iintro ⟨⟨Ha, ⟨%f0, H0⟩, ⟨%f1, H1⟩, ⟨%f2, H2⟩⟩, Hz0, Hz1, Hz2, Hz3⟩
  isplitl [Ha Hz0]
  · isplitl [Hz0] <;> iassumption
  isplitl [Hz1 Hz2 Hz3]
  · isplitl [Hz1]; · iexact Hz1
    isplitl [Hz2] <;> iassumption
  isplitl [H0]; · iexists f0; rw [← xPts_eq]; iexact H0
  isplitl [H1]; · iexists f1; rw [← sPts_eq]; iexact H1
  iexists f2; rw [← rPts_eq]; iexact H2

/-- What is read of device `c` in a final memory: its barrier is at zero and its argument as it was. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

/-- What is kept determines it. -/
theorem kept_read (c : Dev nD) (s' : Phys nD τ sig (Elt F)) :
    iprop(kept m c ∗ emp ∗ SI s') ⊢ |={Set.univ}=> iprop(⌜Read m c s'.mem⌝ ∗ SI s' : sProp 𝕄) := by
  unfold kept
  iintro ⟨⟨Hu, Ha⟩, -, HSI⟩
  icombine HSI Ha gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  · iexact HSI

/-- The result's array is held in full. -/
theorem share_eq (c : Dev nD) (w : Fin cfg0.W) : (dats m 0 c).share w = fullShare := by unfold Dat.share; split <;> rfl

/-- A semaphore that is neither the barrier nor the arrival comes before both. -/
theorem lv_other (c : Dev nD) (sm : SemLoc sig) (h : sm ≠ csem 3 ∧ sm ≠ csem 0) : lv ((c : Thread nD τ), sm) () = 0 :=
  (if_neg h.1).trans (if_neg h.2)

/-- The waits on the staging semaphores come before all others. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait₀ c _ (lv_other c _ (by fin_cases w <;> fin_cases s <;> decide))
    · exact mayWait c _ 0 fun g u h => absurd h (Nat.lt_irrefl 0)

/-! ## The result -/

/-- The result array ends as the sum. -/
theorem result_eq (c : Dev nD) : (dats m 0 c).arrAt (0 : Fin 1) cfg0.N = outAt m c :=
  Dat.arrAt_eq_of_after_last (dats m 0 c) (0 : Fin 1) point (by decide +kernel) (outAt m c) fun j => rfl

set_option maxRecDepth 8000 in
/-- From any memory with every semaphore at zero, every run of the mesh ends; then each device's result is its own block
    plus its partner's narrowed block, its argument is as it was, and every semaphore is at zero. -/
theorem run_main : θ_run defs (onTc (τ := τ) (main (F := F))) (s₀ m ρ) (fun r =>
    (∀ c : Dev nD, r.2.mem ((c : Thread nD τ).loc main_v1) = outAt m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := all_ready m)
    (hA := fun _ _ => rfl) (hpf := fun _ k => k.elim0)
    (X := start m) (Y := kept m) (Z := fun _ => iprop(emp))
    (hX := start_intro m ρ) (hin := before_intro m) (hout := after_elim m)
    (QY := Read m) (hY := kept_read m)
    (hQ := fun _ h hs => ⟨fun c => ⟨((h c).1 (0 : Fin 1)).trans (result_eq m c), (h c).2.2.2⟩, sem_eq_zero hs fun c => (h c).2.2.1⟩)

end Cert.KernelIdeal.Exchange

end
-- ==== Proof.ReferenceRun.lean ====
/-
# The reference and what its result has to do with the kernel's

The reference takes the whole array `x` of 512 rows, views it as two halves of 256 rows, and adds the halves. This
module proves that it runs to that sum, and that at exact arithmetic the sum of the halves is, on every device, the
device's own block plus its partner's.
-/
module

public import proofs.«01_k».proof.Proof.Gen.ReferenceIdeal
public import proofs.«01_k».proof.Proof.KernelIdealProtocol
public import Idealize.ShloMosaic.Lib.StableHlo.Run
public import Idealize.ShloMosaic.Lib.Layout
public import Idealize.ShloMosaic.Lib.Pointwise

@[expose] public section

noncomputable section

namespace Cert.ReferenceIdeal.Halves

open Cert.ReferenceIdeal Cert.ReferenceIdeal.Gen
open Idealize.ShloMosaic Idealize.ShloMosaic.TcCoe Idealize.ShloMosaic.StableHlo Idealize.SL.Sem

variable {F : FTy → Type} [FloatOps F]

/-! ## The run -/

/-- The reference's result from its argument. -/
def refOut (x : FVec F S512x256 .f32) : FVec F S256x256 .f32 :=
  Host.reduceAdd (shapeCast S2x256x256 x shapeCasts_S512x256_S2x256x256) (constant S_ .f32 0x00000000#32) reducesTo_S2x256x256_S256x256_d0 h_S_

/-- The reference's three operations. -/
abbrev steps : List (HloOp τ sig (Elt F)) :=
  [ StableHlo.reshape main_arg0 main_v0 (rfl : (.f32 : EltTy) = .f32) shapeCasts_S512x256_S2x256x256,
    nullary main_cst (constant S_ .f32 0x00000000#32),
    binary main_v0 main_cst main_v1 (fun x v => Host.reduceAdd x v reducesTo_S2x256x256_S256x256_d0 h_S_) ]

/-- They are the whole program. -/
theorem main_steps (c : Dev nD) : main (F := F) c = seq steps := rfl

/-- After them the result buffer holds the sum of the halves, -/
theorem steps_result (V : Valuation τ sig (Elt F)) : after steps V (main_v1 : DevRef τ sig) = refOut (V (main_arg0 : DevRef τ sig)) := by
  after_results
  rfl

/-- and the argument is what it was. -/
theorem steps_arg (V : Valuation τ sig (Elt F)) : after steps V (main_arg0 : DevRef τ sig) = V (main_arg0 : DevRef τ sig) := by
  after_results

/-- The reference has no buffer of limited scope -/
theorem no_scoped_buffer : (Finset.univ.filter fun b : Ref sig .tc => b.isScoped) = ∅ := by decide
/-- and no semaphore. -/
theorem no_scoped_semaphore : (Finset.univ.filter fun sm : SemLoc sig => sm.isScoped .tc) = ∅ := by decide

/-- The operations touch buffers of the TensorCore only. -/
theorem steps_local : (steps : List (HloOp τ sig (Elt F))).Forall fun op => op.bufs ⊆ tcRefs τ sig :=
  ⟨reshape_bufs_sub .., nullary_bufs_sub .., binary_bufs_sub ..⟩

/-- Every run of the reference ends, with the sum of the halves in its result, its argument as it was, and every semaphore
    at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = refOut (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c main_v1).trans (steps_result _), (h c main_arg0).trans (steps_arg _)⟩, sem_eq_zero_of_no_sems (by decide) r.2⟩)
    (run_seq no_scoped_buffer no_scoped_semaphore defs main (fun _ => steps) main_steps (fun _ => steps_local) m ρ)

/-! ## The value -/

set_option backward.proofsInPublic true in
/-- Row `i` of half `k` is row `256 k + i` of the whole. -/
def rowOf (k : Fin 2) (i : S256x256.Idx) : S512x256.Idx :=
  ix2 ⟨k.val * 256 + (i 0).val, by have := k.isLt; have h : (i 0).val < 256 := (i 0).isLt; omega⟩ (i 1)

/-- At exact arithmetic the result is the first half plus the second. -/
theorem refOut_apply (x : FVec Ideal S512x256 .f32) (i : S256x256.Idx) : refOut x i = (x (rowOf 0 i) + x (rowOf 1 i) : EReal) := by
  unfold refOut
  pointwise
  exact Fin.sum_univ_two _

/-! ## The kernel's result is the reference's -/

open Cert.KernelIdeal.Exchange (peer xAt sAt outAt)

set_option backward.proofsInPublic true in
/-- Which half of the rows a device holds: its first mesh coordinate. -/
def half (c : Dev Cert.KernelIdeal.nD) : Fin 2 := ⟨c.val / 8, by have h : c.val < 16 := c.isLt; omega⟩

/-- A device and its partner hold the two halves: one way round or the other. -/
theorem halves (c : Dev Cert.KernelIdeal.nD) : half c = 0 ∧ half (peer c) = 1 ∨ half c = 1 ∧ half (peer c) = 0 := by
  revert c; decide

/-- Row `i` of device `c`'s block is row `i` of its half. -/
theorem idx_block (h : Layout.TilesN ⟨2, ![256, 256]⟩ ⟨2, ![512, 256]⟩ fun b => Layout.cutSize [2, 2, 4] (![[0], []] b))
    (c : Dev Cert.KernelIdeal.nD) (i : S256x256.Idx) : h.idx (Layout.meshBlock [2, 2, 4] ![[0], []] c) i = rowOf (half c) i := by
  have hc : c.val < 16 := c.isLt
  funext b; apply Fin.ext
  rw [Layout.TilesN.idx_val]
  fin_cases b
  · show (c.val / 8 % 2 * 1 + 0) * 256 + (i 0).val = c.val / 8 * 256 + (i 0).val
    omega
  · show 0 * 256 + (i 1).val = (i 1).val
    omega

/-- At exact arithmetic, if every device starts with its block of `x`, it ends with the sum of the halves of `x`. -/
theorem outAt_eq (m : (ℓ : Loc Cert.KernelIdeal.nD Cert.KernelIdeal.τ Cert.KernelIdeal.sig) → Buf (Elt Ideal) ℓ) (x : FVec Ideal S512x256 .f32)
    (hx : ∀ c : Dev Cert.KernelIdeal.nD, xAt m c = Layout.blockN ⟨2, ![256, 256]⟩ ⟨2, ![512, 256]⟩ (Layout.meshBlock [2, 2, 4] ![[0], []] c) x)
    (c : Dev Cert.KernelIdeal.nD) : outAt m c = refOut x := by
  have hrow (d : Dev Cert.KernelIdeal.nD) (i : S256x256.Idx) : xAt m d i = x (rowOf (half d) i) := by
    rw [hx d, Layout.blockN_apply, idx_block]
  funext i
  have hsum : outAt m c i = (xAt m c i + xAt m (peer c) i : EReal) := by
    unfold outAt sAt Cert.KernelIdeal.Gen.k0_pay1 Cert.KernelIdeal.Gen.k0_pay2
    pointwise!
  rw [hsum, hrow, hrow, refOut_apply]
  rcases halves c with ⟨h, h'⟩ | ⟨h, h'⟩ <;> rw [h, h']
  exact add_comm (x (rowOf 1 i) : EReal) (x (rowOf 0 i))

end Cert.ReferenceIdeal.Halves

end
-- ==== Proof.lean ====
/-
# The claims

Everything stated of the kernel and its reference, put together from the modules under Proof/: the kernel as printed and
its idealization run, leave their argument as it was and every semaphore at zero; so does the reference; and at exact
arithmetic every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KernelIdealRun
public import proofs.«01_k».proof.Proof.ReferenceRun
public import Idealize.ShloMosaic.Adequacy
public import Idealize.ShloMosaic.Init

@[expose] public section

noncomputable section

namespace Cert.Proof

open Idealize.ShloMosaic Idealize.SL.Sem

/-- The kernel runs, leaves its argument as it was, and ends with every semaphore at zero. -/
theorem kernel_runs : Cert.quiescent_Kernel := fun m g _ =>
  (θ_run Cert.Kernel.defs _ _).mono (fun _ h => ⟨fun c => (h.1 c).2, h.2⟩) (Cert.Kernel.Exchange.run_main m g)

/-- So does its idealization, -/
theorem kernelIdeal_runs : Cert.quiescent_KernelIdeal := fun m g _ =>
  (θ_run Cert.KernelIdeal.defs _ _).mono (fun _ h => ⟨fun c => (h.1 c).2, h.2⟩) (Cert.KernelIdeal.Exchange.run_main m g)

/-- and the reference. -/
theorem reference_runs : Cert.quiescent_ReferenceIdeal := fun m g _ =>
  (θ_run Cert.ReferenceIdeal.defs _ _).mono (fun _ h => ⟨fun c => (h.1 c).2, h.2⟩) (Cert.ReferenceIdeal.Halves.run_main m g)

/-- At exact arithmetic every device's result is the reference's: the sum of the two halves of the whole array. -/
theorem same_result : Cert.algebraic_KernelIdeal_ReferenceIdeal := by
  intro m g m' g' _ hx
  refine ⟨Cert.ReferenceIdeal.Halves.refOut (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).1.trans (Cert.ReferenceIdeal.Halves.outAt_eq m _ hx c), (h.1 c).2⟩)
      (Cert.KernelIdeal.Exchange.run_main m g)
  · exact (θ_run Cert.ReferenceIdeal.defs _ _).mono (fun _ h => h.1 0) (Cert.ReferenceIdeal.Halves.run_main m' g')

/-- All claims. -/
theorem claim : Cert.Claim := ⟨Cert.Kernel.Gen.facts, Cert.KernelIdeal.Gen.facts, Cert.ReferenceIdeal.Gen.facts,
  kernel_runs, kernelIdeal_runs, reference_runs, trivial, same_result⟩

end Cert.Proof

end
